-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_positions [hPre_unit_positions : Cert.Pre_unit_positions.Facts] (m : (ℓ : Loc Cert.KernelIdeal.nD Cert.KernelIdeal.τ Cert.KernelIdeal.sig) → Buf (Elt Ideal) ℓ) : Prop :=
  ∀ c : Dev Cert.KernelIdeal.nD,
    (Cert.Pre_unit_positions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_positions [hPre_unit_positions : Cert.Pre_unit_positions.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_positions.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_unit_positions [hKernelIdeal : Cert.KernelIdeal.Facts] [hPre_unit_positions : Cert.Pre_unit_positions.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_positions m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_unit_positions [hReferenceIdeal : Cert.ReferenceIdeal.Facts] [hPre_unit_positions : Cert.Pre_unit_positions.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_positions m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_unit_positions [hKernelIdeal : Cert.KernelIdeal.Facts] [hReferenceIdeal : Cert.ReferenceIdeal.Facts] [hPre_unit_positions : Cert.Pre_unit_positions.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_positions m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_unit_positions : Cert.Pre_unit_positions.Facts),
    quiescent_Kernel (hKernel := hKernel)
    ∧ quiescent_KernelIdeal (hKernelIdeal := hKernelIdeal)
    ∧ quiescent_KernelIdeal_pre_unit_positions (hKernelIdeal := hKernelIdeal) (hPre_unit_positions := hPre_unit_positions)
    ∧ quiescent_ReferenceIdeal (hReferenceIdeal := hReferenceIdeal)
    ∧ quiescent_ReferenceIdeal_pre_unit_positions (hReferenceIdeal := hReferenceIdeal) (hPre_unit_positions := hPre_unit_positions)
    ∧ preserves_Kernel_KernelIdeal
    ∧ algebraic_KernelIdeal_ReferenceIdeal_pre_unit_positions (hKernelIdeal := hKernelIdeal) (hReferenceIdeal := hReferenceIdeal) (hPre_unit_positions := hPre_unit_positions)
-- ==== Pre_unit_positions.lean ====
abbrev S16x16384 : Shape := ⟨2, ![16, 16384]⟩
abbrev S16x64x8192 : Shape := ⟨3, ![16, 64, 8192]⟩
abbrev S_ : Shape := ⟨0, ![]⟩

class Facts : Prop where
  bcast_S_S16x16384 : S_.BroadcastsInDim S16x16384 (![] : Fin 0 → Fin S16x16384.rank)
  reducesTo_S16x16384_S_d0_1 : S16x16384.ReducesTo [0, 1] S_
  h_S_ : 0 < S_.numel

variable [Facts]

def fn {F : FTy → Type} [FloatOps F] (main_arg0 : FVec F S16x16384 .f32) (main_arg1 : FVec F S16x64x8192 .f32) : IVec S_ 1 :=
  let main_cst : FVec F S_ .f32 := constant S_ .f32 0x00000000#32
  let main_v0 : FVec F S16x16384 .f32 := broadcastInDim S16x16384 ![] bcast_S_S16x16384 main_cst
  let main_v1 : IVec S16x16384 1 := cmpf .oge main_arg0 main_v0
  let main_c : IVec S_ 1 := constantI S_ 1 1#1
  let main_v2 : IVec S_ 1 := (fun x v => Host.reduce IntOp.andi x v reducesTo_S16x16384_S_d0_1 h_S_) main_v1 main_c
  let main_cst_0 : FVec F S_ .f32 := constant S_ .f32 0x3F800000#32
  let main_v3 : FVec F S16x16384 .f32 := broadcastInDim S16x16384 ![] bcast_S_S16x16384 main_cst_0
  let main_v4 : IVec S16x16384 1 := cmpf .ole main_arg0 main_v3
  let main_c_1 : IVec S_ 1 := constantI S_ 1 1#1
  let main_v5 : IVec S_ 1 := (fun x v => Host.reduce IntOp.andi x v reducesTo_S16x16384_S_d0_1 h_S_) main_v4 main_c_1
  let main_v6 : IVec S_ 1 := andi main_v2 main_v5
  main_v6
-- ==== Kernel.lean ====
abbrev S16x16384 : Shape := ⟨2, ![16, 16384]⟩
abbrev S16x64x8192 : Shape := ⟨3, ![16, 64, 8192]⟩
abbrev S16x64x16384 : Shape := ⟨3, ![16, 64, 16384]⟩
abbrev S16x2048 : Shape := ⟨2, ![16, 2048]⟩
abbrev S16x64x128 : Shape := ⟨3, ![16, 64, 128]⟩
abbrev S16x64x2048 : Shape := ⟨3, ![16, 64, 2048]⟩
abbrev S16x1x2048 : Shape := ⟨3, ![16, 1, 2048]⟩
abbrev S16x64x1 : Shape := ⟨3, ![16, 64, 1]⟩
abbrev S16x64 : Shape := ⟨2, ![16, 64]⟩

abbrev nBuf : Space → Nat
  | .hbm => 3
  | .vmem => 5
  | .smem => 0
  | _ => 0

abbrev bufTy : (tb : Table) → Fin (tcTables nBuf tb) → BufTy
  | .hbm, ⟨0, _⟩ => ⟨S16x16384, .f32⟩
  | .hbm, ⟨1, _⟩ => ⟨S16x64x8192, .f32⟩
  | .hbm, ⟨2, _⟩ => ⟨S16x64x16384, .f32⟩
  | .local _ .vmem, ⟨0, _⟩ => ⟨S16x2048, .f32⟩
  | .local _ .vmem, ⟨1, _⟩ => ⟨S16x2048, .f32⟩
  | .local _ .vmem, ⟨2, _⟩ => ⟨S16x64x128, .f32⟩
  | .local _ .vmem, ⟨3, _⟩ => ⟨S16x64x2048, .f32⟩
  | .local _ .vmem, ⟨4, _⟩ => ⟨S16x64x2048, .f32⟩
  | _, _ => ⟨S16x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16x16384 : Shape := ⟨2, ![16, 16384]⟩
abbrev S16x64x8192 : Shape := ⟨3, ![16, 64, 8192]⟩
abbrev S_ : Shape := ⟨0, ![]⟩
abbrev S16x1x16384 : Shape := ⟨3, ![16, 1, 16384]⟩
abbrev S16x64x16384 : Shape := ⟨3, ![16, 64, 16384]⟩
abbrev S16x64x16384x1 : Shape := ⟨4, ![16, 64, 16384, 1]⟩
abbrev S1 : Shape := ⟨1, ![1]⟩
abbrev S1x1x1x1 : Shape := ⟨4, ![1, 1, 1, 1]⟩

abbrev nBuf : Space → Nat
  | .hbm => 76
  | .vmem => 0
  | .smem => 0
  | _ => 0

abbrev bufTy : (tb : Table) → Fin (tcTables nBuf tb) → BufTy
  | .hbm, ⟨0, _⟩ => ⟨S16x16384, .f32⟩
  | .hbm, ⟨1, _⟩ => ⟨S16x64x8192, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S16x16384, .f32⟩
  | .hbm, ⟨6, _⟩ => ⟨S16x16384, .f32⟩
  | .hbm, ⟨7, _⟩ => ⟨S_, .f32⟩
  | .hbm, ⟨8, _⟩ => ⟨S16x16384, .f32⟩
  | .hbm, ⟨9, _⟩ => ⟨S16x16384, .f32⟩
  | .hbm, ⟨10, _⟩ => ⟨S16x16384, .f32⟩
  | .hbm, ⟨11, _⟩ => ⟨S16x16384, .f32⟩
  | .hbm, ⟨12, _⟩ => ⟨S16x1x16384, .f32⟩
  | .hbm, ⟨13, _⟩ => ⟨S16x16384, .i32⟩
  | .hbm, ⟨14, _⟩ => ⟨S_, .i32⟩
  | .hbm, ⟨15, _⟩ => ⟨S16x16384, .i32⟩
  | .hbm, ⟨16, _⟩ => ⟨S16x16384, .i32⟩
  | .hbm, ⟨17, _⟩ => ⟨S_, .i32⟩
  | .hbm, ⟨18, _⟩ => ⟨S16x16384, .i32⟩
  | .hbm, ⟨19, _⟩ => ⟨S16x16384, .i32⟩
  | .hbm, ⟨20, _⟩ => ⟨S16x1x16384, .i32⟩
  | .hbm, ⟨21, _⟩ => ⟨S16x64x16384, .i32⟩
  | .hbm, ⟨22, _⟩ => ⟨S16x1x16384, .i32⟩
  | .hbm, ⟨23, _⟩ => ⟨S16x64x16384, .i32⟩
  | .hbm, ⟨24, _⟩ => ⟨S_, .i32⟩
  | .hbm, ⟨25, _⟩ => ⟨S16x64x16384, .i32⟩
  | .hbm, ⟨26, _⟩ => ⟨S16x64x16384, .i1⟩
  | .hbm, ⟨27, _⟩ => ⟨S_, .i32⟩
  | .hbm, ⟨28, _⟩ => ⟨S16x64x16384, .i32⟩
  | .hbm, ⟨29, _⟩ => ⟨S16x64x16384, .i32⟩
  | .hbm, ⟨30, _⟩ => ⟨S16x64x16384, .i32⟩
  | .hbm, ⟨31, _⟩ => ⟨S16x64x16384x1, .i32⟩
  | .hbm, ⟨32, _⟩ => ⟨S1, .i32⟩
  | .hbm, ⟨33, _⟩ => ⟨S_, .i32⟩
  | .hbm, ⟨34, _⟩ => ⟨S16x64x16384x1, .i32⟩
  | .hbm, ⟨35, _⟩ => ⟨S16x64x16384x1, .i1⟩
  | .hbm, ⟨36, _⟩ => ⟨S1x1x1x1, .i32⟩
  | .hbm, ⟨37, _⟩ => ⟨S16x64x16384x1, .i32⟩
  | .hbm, ⟨38, _⟩ => ⟨S16x64x16384x1, .i1⟩
  | .hbm, ⟨39, _⟩ => ⟨S16x64x16384x1, .i1⟩
  | .hbm, ⟨40, _⟩ => ⟨S_, .i1⟩
  | .hbm, ⟨41, _⟩ => ⟨S16x64x16384, .i1⟩
  | .hbm, ⟨42, _⟩ => ⟨S16x64x16384, .f32⟩
  | .hbm, ⟨43, _⟩ => ⟨S_, .f32⟩
  | .hbm, ⟨44, _⟩ => ⟨S16x64x16384, .f32⟩
  | .hbm, ⟨45, _⟩ => ⟨S16x64x16384, .f32⟩
  | .hbm, ⟨46, _⟩ => ⟨S_, .i32⟩
  | .hbm, ⟨47, _⟩ => ⟨S16x64x16384, .i32⟩
  | .hbm, ⟨48, _⟩ => ⟨S16x64x16384, .i1⟩
  | .hbm, ⟨49, _⟩ => ⟨S_, .i32⟩
  | .hbm, ⟨50, _⟩ => ⟨S16x64x16384, .i32⟩
  | .hbm, ⟨51, _⟩ => ⟨S16x64x16384, .i32⟩
  | .hbm, ⟨52, _⟩ => ⟨S16x64x16384, .i32⟩
  | .hbm, ⟨53, _⟩ => ⟨S16x64x16384x1, .i32⟩
  | .hbm, ⟨54, _⟩ => ⟨S1, .i32⟩
  | .hbm, ⟨55, _⟩ => ⟨S_, .i32⟩
  | .hbm, ⟨56, _⟩ => ⟨S16x64x16384x1, .i32⟩
  | .hbm, ⟨57, _⟩ => ⟨S16x64x16384x1, .i1⟩
  | .hbm, ⟨58, _⟩ => ⟨S1x1x1x1, .i32⟩
  | .hbm, ⟨59, _⟩ => ⟨S16x64x16384x1, .i32⟩
  | .hbm, ⟨60, _⟩ => ⟨S16x64x16384x1, .i1⟩
  | .hbm, ⟨61, _⟩ => ⟨S16x64x16384x1, .i1⟩
  | .hbm, ⟨62, _⟩ => ⟨S_, .i1⟩
  | .hbm, ⟨63, _⟩ => ⟨S16x64x16384, .i1⟩
  | .hbm, ⟨64, _⟩ => ⟨S16x64x16384, .f32⟩
  | .hbm, ⟨65, _⟩ => ⟨S_, .f32⟩
  | .hbm, ⟨66, _⟩ => ⟨S16x64x16384, .f32⟩
  | .hbm, ⟨67, _⟩ => ⟨S16x64x16384, .f32⟩
  | .hbm, ⟨68, _⟩ => ⟨S_, .f32⟩
  | .hbm, ⟨69, _⟩ => ⟨S16x1x16384, .f32⟩
  | .hbm, ⟨70, _⟩ => ⟨S16x1x16384, .f32⟩
  | .hbm, ⟨71, _⟩ => ⟨S16x64x16384, .f32⟩
  | .hbm, ⟨72, _⟩ => ⟨S16x64x16384, .f32⟩
  | .hbm, ⟨73, _⟩ => ⟨S16x64x16384, .f32⟩
  | .hbm, ⟨74, _⟩ => ⟨S16x64x16384, .f32⟩
  | .hbm, ⟨75, _⟩ => ⟨S16x64x16384, .f32⟩
  | _, _ => ⟨S16x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v13 : Ref sig .tc := ⟨.hbm, 45, rfl⟩
abbrev main_call2_c : Ref sig .tc := ⟨.hbm, 46, rfl⟩
abbrev main_call2_v0 : Ref sig .tc := ⟨.hbm, 47, rfl⟩
abbrev main_call2_v1 : Ref sig .tc := ⟨.hbm, 48, rfl⟩
abbrev main_call2_c_0 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_c_1 : Ref sig .tc := ⟨.hbm, 54, rfl⟩
abbrev main_call2_c_2 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_3 : Ref sig .tc := ⟨.hbm, 62, rfl⟩
abbrev main_call2_v12 : Ref sig .tc := ⟨.hbm, 63, rfl⟩
abbrev main_call2_v13 : Ref sig .tc := ⟨.hbm, 64, rfl⟩
abbrev main_call2_cst : Ref sig .tc := ⟨.hbm, 65, rfl⟩
abbrev main_call2_v14 : Ref sig .tc := ⟨.hbm, 66, rfl⟩
abbrev main_v14 : Ref sig .tc := ⟨.hbm, 67, rfl⟩
abbrev main_cst_2 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩

abbrev nD : Nat := 1
abbrev τ : Topo := Topo.v7x

variable {F : FTy → Type} [FloatOps F]
-- ==== Proof.UnitPositions.lean ====
/-
  What the precondition says: where `unit_positions` holds, every position lies between 0 and 1.
-/
module

public import proofs.«01_k».proof.Defs
public import proofs.«01_k».proof.Proof.Gen.Pre_unit_positions
public import Idealize.ShloMosaic.PureOps.Ideal
public import Idealize.ShloMosaic.Lib.IdealHost
public import Idealize.ShloMosaic.Lib.ReduceAll
public import Idealize.ShloMosaic.Lib.StableHlo.Predicate

@[expose] public section

noncomputable section

open Idealize.ShloMosaic

namespace Cert.UnitPositions

open Cert.Pre_unit_positions

/-- Where the precondition holds, each position is at least 0 and at most 1. -/
theorem bounds (X : FVec Ideal S16x16384 .f32) (Y : FVec Ideal S16x64x8192 .f32)
    (h : fn (F := Ideal) X Y = fun _ => 1#1) (i : S16x16384.Idx) : (0 : EReal) ≤ X i ∧ X i ≤ (1 : EReal) := by
  have hs : Subsingleton S_.Idx := ⟨fun a b => funext fun k => k.elim0⟩
  have hj := congrFun h (Shape.Idx.first Facts.h_S_)
  obtain ⟨h0, h1⟩ := IntOp.andi_eq_one.1 hj
  have g0 := Host.reduce_andi_all _ _ _ _ _ h0 i
  have g1 := Host.reduce_andi_all _ _ _ _ _ h1 i
  have e0 : Ideal.cmp .oge (X i) (Ideal.ofBits .f32 0x00000000#32) = 1#1 := g0
  have e1 : Ideal.cmp .ole (X i) (Ideal.ofBits .f32 0x3F800000#32) = 1#1 := g1
  rw [Ideal.ofBits_zero_f32] at e0
  rw [Ideal.ofBits_one_f32] at e1
  refine ⟨?_, ?_⟩
  · by_contra hc
    simp [Ideal.cmp, hc] at e0
  · by_contra hc
    simp [Ideal.cmp, hc] at e1

end Cert.UnitPositions

end
-- ==== Proof.Interpolation.lean ====
/-
  The scalar mathematics of linear interpolation at a position between 0 and 1, on the extended reals.

  The kernel weighs the entries 0 and 1 of a row of features with the position itself. The reference takes the floor
  of the position, reads the entry there and the one after it, and weighs them with the fractional part. This module
  states both as functions of a row and a position, and shows that they agree between 0 and 1 (`reference_eq_kernel`).
  No program is mentioned here.
-/
module

public import Idealize.ShloMosaic.PureOps.Ideal
public import Idealize.ShloMosaic.Lib.IdealHost

@[expose] public section

noncomputable section

open Idealize.ShloMosaic

namespace Cert.Interp

/-- The blend of `a` and `b` with weight `w`: `a` at weight 0, `b` at weight 1. -/
def lerp (w a b : EReal) : EReal := a * (1 - w) + b * w

/-- A position between 0 and 1 is 1, or a real number from 0 up to but excluding 1. -/
theorem unit_cases {x : EReal} (h0 : 0 ≤ x) (h1 : x ≤ 1) : x = 1 ∨ ∃ r : ℝ, x = (r : EReal) ∧ 0 ≤ r ∧ r < 1 := by
  rcases eq_or_lt_of_le h1 with h | h
  · exact Or.inl h
  · refine Or.inr ?_
    induction x using EReal.rec with
    | bot => simp at h0
    | top => exact absurd h not_top_lt
    | coe r => exact ⟨r, rfl, by exact_mod_cast h0, by exact_mod_cast h⟩

/-- The largest position the reference lets through, 8191, is at least 1. -/
theorem one_le_last : (1 : EReal) ≤ Ideal.ofBits .f32 0x45FFF800#32 := by
  have h : Ideal.ofBits .f32 0x45FFF800#32 = ((8191 : ℝ) : EReal) := by
    simp [Ideal.ofBits, Ideal.ieee, -EReal.coe_mul]; norm_num
  rw [h]
  exact_mod_cast (by norm_num : (1 : ℝ) ≤ 8191)

/-- Clipping to 0 … 8191 leaves a position between 0 and 1 as it is. -/
theorem clip_unit {x : EReal} (h0 : 0 ≤ x) (h1 : x ≤ 1) : min (Ideal.ofBits .f32 0x45FFF800#32) (max 0 x) = x := by
  rw [max_eq_right h0, min_eq_right (h1.trans one_le_last)]

/-- The floor of 1 is 1. -/
theorem floor_one : Ideal.liftRound Int.floor (1 : EReal) = 1 := by
  rw [show (1 : EReal) = ((1 : ℝ) : EReal) by norm_cast, Ideal.liftRound_coe]
  simp

/-- The floor of a real number from 0 up to but excluding 1 is 0. -/
theorem floor_below_one {r : ℝ} (h0 : 0 ≤ r) (h1 : r < 1) : Ideal.liftRound Int.floor (r : EReal) = 0 := by
  rw [Ideal.liftRound_coe, Int.floor_eq_zero_iff.2 ⟨h0, h1⟩]
  simp

/-- The word of the extended real 1. -/
theorem word_one : Ideal.fptosi 32 (1 : EReal) = 1#32 := by
  rw [show (1 : EReal) = ((1 : ℝ) : EReal) by norm_cast, Ideal.fptosi, Ideal.toIntClamped_coe]
  simp

/-- The word of the extended real 0. -/
theorem word_zero : Ideal.fptosi 32 (0 : EReal) = 0#32 := by
  rw [show (0 : EReal) = ((0 : ℝ) : EReal) by norm_cast, Ideal.fptosi, Ideal.toIntClamped_coe]
  simp

/-- The index word the reference computes for its left neighbour: the floor of the position. -/
def leftWord (x : EReal) : BitVec 32 := Ideal.fptosi 32 (Ideal.liftRound Int.floor x)

/-- The index word the reference computes for its right neighbour: one more, but at most 8191. -/
def rightWord (x : EReal) : BitVec 32 := IntOp.minsi (IntOp.addi (leftWord x) 1#32) 8191#32

/-- The weight the reference gives the right neighbour: the fractional part of the position. -/
def fraction (x : EReal) : EReal := x - Ideal.liftRound Int.floor x

/-- What the reference reads and weighs at position 1: the entries 1 and 2, with weight 0 on the second. -/
theorem at_one : leftWord 1 = 1#32 ∧ rightWord 1 = 2#32 ∧ fraction 1 = 0 := by
  have hl : leftWord 1 = 1#32 := by rw [leftWord, floor_one, word_one]
  refine ⟨hl, by rw [rightWord, hl]; decide, ?_⟩
  rw [fraction, floor_one, show (1 : EReal) = ((1 : ℝ) : EReal) by norm_cast, ← EReal.coe_sub]
  simp

/-- What the reference reads and weighs at a position below 1: the entries 0 and 1, with the position as weight. -/
theorem at_below_one {r : ℝ} (h0 : 0 ≤ r) (h1 : r < 1) :
    leftWord r = 0#32 ∧ rightWord r = 1#32 ∧ fraction r = r := by
  have hl : leftWord r = 0#32 := by rw [leftWord, floor_below_one h0 h1, word_zero]
  refine ⟨hl, by rw [rightWord, hl]; decide, ?_⟩
  rw [fraction, floor_below_one h0 h1, sub_zero]

/-- At a position between 0 and 1 both index words lie in the row. -/
theorem words_lt {x : EReal} (h0 : 0 ≤ x) (h1 : x ≤ 1) : (leftWord x).toNat < 8192 ∧ (rightWord x).toNat < 8192 := by
  rcases unit_cases h0 h1 with rfl | ⟨r, rfl, hr0, hr1⟩
  · obtain ⟨hl, hr, -⟩ := at_one
    rw [hl, hr]; decide
  · obtain ⟨hl, hr, -⟩ := at_below_one hr0 hr1
    rw [hl, hr]; decide

/-- THE EQUATION: at a position between 0 and 1, blending the reference's two neighbours with the fractional part
    is blending the entries 0 and 1 with the position. At position 1 both are entry 1: the reference multiplies
    entry 2 by 0 and the kernel multiplies entry 0 by 0, and 0 times any extended real is 0. -/
theorem reference_eq_kernel (f : Nat → EReal) {x : EReal} (h0 : 0 ≤ x) (h1 : x ≤ 1) :
    lerp (fraction x) (f (leftWord x).toNat) (f (rightWord x).toNat) = lerp x (f 0) (f 1) := by
  rcases unit_cases h0 h1 with rfl | ⟨r, rfl, hr0, hr1⟩
  · obtain ⟨hl, hr, hf⟩ := at_one
    have h11 : (1 : EReal) - 1 = 0 := by
      rw [show (1 : EReal) = ((1 : ℝ) : EReal) by norm_cast, ← EReal.coe_sub]
      simp
    rw [hl, hr, hf, lerp, lerp, h11, sub_zero, mul_zero, mul_zero, mul_one, mul_one, zero_add, add_zero]
    rfl
  · obtain ⟨hl, hr, hf⟩ := at_below_one hr0 hr1
    rw [hl, hr, hf]
    rfl

end Cert.Interp

end
-- ==== Proof.KernelValue.lean ====
/-
  What the kernel leaves in its result array.

  Each of the eight grid points blends columns 0 and 1 of the features with its block of 2048 positions (`block_apply`).
  The eight blocks tile the result, so after the run the whole array holds `blend` (`final`): at `(b, c, q)`,
  feature `(b, c, 0)` times one minus position `(b, q)`, plus feature `(b, c, 1)` times position `(b, q)`.
-/
module

public import proofs.«01_k».proof.Proof.Gen.KernelIdeal.Value
public import proofs.«01_k».proof.Proof.Interpolation
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)

namespace Cert.KernelIdeal.Interp

open Cert.KernelIdeal Cert.KernelIdeal.Gen Cert.Interp

variable (m : (ℓ : Loc nD τ sig) → Buf (Elt Ideal) ℓ) (ρ : Dev nD → PrngReg)

/-- The blend of columns 0 and 1 of the features `f`, weighed by the positions `X`. -/
def blend (X : FVec Ideal S16x16384 .f32) (f : FVec Ideal S16x64x8192 .f32) : FVec Ideal S16x64x16384 .f32 :=
  fun i => lerp (X (ix2 (i 0) (i 2))) (f (ix3 (i 0) (i 1) (0 : Fin 8192))) (f (ix3 (i 0) (i 1) (1 : Fin 8192)))

/-- The blend of device `c`'s two argument arrays. -/
def blendOf (c : Dev nD) : Buf (Elt Ideal) ((c : Thread nD τ).loc main_v0) :=
  blend (m ((c : Thread nD τ).loc main_arg0)) (m ((c : Thread nD τ).loc main_arg1))

/-! ## What one block computes -/

/-- The blend with the number one given as `o`. -/
def lerpOne (o w a b : EReal) : EReal := a * (o - w) + b * w

/-- One grid point's block: the positions `x` of the block blend columns 0 and 1 of the features block `f`. -/
theorem block_apply (x : FVec Ideal S16x2048 .f32) (f : FVec Ideal S16x64x128 .f32) (y : S16x64x2048.Idx) :
    out0_2 (F := Ideal) x f y = lerp (x (ix2 (y 0) (y 2))) (f (ix3 (y 0) (y 1) (0 : Fin 128))) (f (ix3 (y 0) (y 1) (1 : Fin 128))) := by
  let xs : Vec Ideal S16x2048 .f32 := View.ld (Val := Elt Ideal) (e' := .f32) x r0_0
  let f0 : Vec Ideal S16x64x1 .f32 := View.ld (Val := Elt Ideal) (e' := .f32) f r0_1
  let f1 : Vec Ideal S16x64x1 .f32 := View.ld (Val := Elt Ideal) (e' := .f32) f r0_2
  have e : out0_2 (F := Ideal) x f y = Value.E2 f0 xs f1 y := Value.canon2_eq f0 xs f1 y
  have hx : xs (Value.ix2_1 y) = x (ix2 (y 0) (y 2)) := by
    refine congrArg x (funext fun a => Fin.ext ?_)
    match a with
    | ⟨0, _⟩ => show 0 + 1 * (y 0).val = (y 0).val; omega
    | ⟨1, _⟩ => show 0 + 1 * (y 2).val = (y 2).val; omega
  have h0 : f0 (Value.ix2_0 y) = f (ix3 (y 0) (y 1) (0 : Fin 128)) := by
    refine congrArg f (funext fun a => Fin.ext ?_)
    match a with
    | ⟨0, _⟩ => show 0 + 1 * (y 0).val = (y 0).val; omega
    | ⟨1, _⟩ => show 0 + 1 * (y 1).val = (y 1).val; omega
    | ⟨2, _⟩ => rfl
  have h1 : f1 (Value.ix2_2 y) = f (ix3 (y 0) (y 1) (1 : Fin 128)) := by
    refine congrArg f (funext fun a => Fin.ext ?_)
    match a with
    | ⟨0, _⟩ => show 0 + 1 * (y 0).val = (y 0).val; omega
    | ⟨1, _⟩ => show 0 + 1 * (y 1).val = (y 1).val; omega
    | ⟨2, _⟩ => rfl
  have hE : Value.E2 f0 xs f1 y
      = lerpOne (Ideal.ofBits .f32 0x3F800000#32) (xs (Value.ix2_1 y)) (f0 (Value.ix2_0 y)) (f1 (Value.ix2_2 y)) := rfl
  rw [e, hE, hx, h0, h1, Ideal.ofBits_one_f32]
  rfl

/-! ## Where each block lies in its array -/

/-- Point `t`'s block of positions starts at column `t · 2048`; its block of features is the first 128 columns; its block
    of the result starts at column `t · 2048`. -/
theorem block_index : ∀ t : Fin cfg0.N,
    win0_0.index t = ![0, t.val] ∧ win0_1.index t = ![0, 0, 0] ∧ win0_2.index t = ![0, 0, t.val] :=
  (by decide +kernel : ∀ t : Fin grid0.N,
    win0_0.index t = ![0, t.val] ∧ win0_1.index t = ![0, 0, 0] ∧ win0_2.index t = ![0, 0, t.val])

/-- A point's number is below 8. -/
theorem point_lt (t : Fin cfg0.N) : t.val < 8 := t.isLt

/-- Point `t`'s block of positions, read at an index of the block. -/
theorem positions_apply (c : Dev nD) (t : Fin cfg0.N) (b : Fin 16) (k : Fin 2048) :
    iblk m c 0 t (ix2 b k)
      = m ((c : Thread nD τ).loc main_arg0)
          (ix2 b (⟨t.val * 2048 + k.val, by have := point_lt t; omega⟩ : Fin 16384) : S16x16384.Idx) := by
  obtain ⟨e, -, -⟩ := block_index t
  refine congrArg (m ((c : Thread nD τ).loc main_arg0)) (funext fun a => Fin.ext ?_)
  have h := Pipeline.Window.rect_emb_val win0_0 t (ix2 b k) a
  rw [e] at h
  match a with
  | ⟨0, _⟩ => exact h.trans (by show 0 * 16 + b.val = b.val; omega)
  | ⟨1, _⟩ => exact h

/-- Every point's block of features, read at an index of the block, is the features at that index. -/
theorem features_apply (c : Dev nD) (t : Fin cfg0.N) (b : Fin 16) (k : Fin 64) (j : Fin 128) :
    iblk m c 1 t (ix3 b k j)
      = m ((c : Thread nD τ).loc main_arg1) (ix3 b k (⟨j.val, by omega⟩ : Fin 8192) : S16x64x8192.Idx) := by
  obtain ⟨-, e, -⟩ := block_index t
  refine congrArg (m ((c : Thread nD τ).loc main_arg1)) (funext fun a => Fin.ext ?_)
  have h := Pipeline.Window.rect_emb_val win0_1 t (ix3 b k j) a
  rw [e] at h
  match a with
  | ⟨0, _⟩ => exact h.trans (by show 0 * 16 + b.val = b.val; omega)
  | ⟨1, _⟩ => exact h.trans (by show 0 * 64 + k.val = k.val; omega)
  | ⟨2, _⟩ => exact h.trans (by show 0 * 128 + j.val = j.val; omega)

/-- Point `t`'s block of the result, read at an index of the block, for any contents `G` of the result array. -/
theorem result_block_apply (c : Dev nD) (G : Buf (Elt Ideal) ((c : Thread nD τ).loc main_v0)) (t : Fin cfg0.N)
    (y : S16x64x2048.Idx) :
    (win0_2.blk t).view.read (Elt Ideal) G y
      = G (ix3 (y 0) (y 1) (⟨t.val * 2048 + (y 2).val, by
          have := point_lt t; have h2 : (y 2).val < 2048 := (y 2).isLt; omega⟩ : Fin 16384) : S16x64x16384.Idx) := by
  obtain ⟨-, -, e⟩ := block_index t
  refine congrArg G (funext fun a => Fin.ext ?_)
  have h := Pipeline.Window.rect_emb_val win0_2 t y a
  rw [e] at h
  match a with
  | ⟨0, _⟩ => exact h.trans (by show 0 * 16 + (y 0).val = (y 0).val; omega)
  | ⟨1, _⟩ => exact h.trans (by show 0 * 64 + (y 1).val = (y 1).val; omega)
  | ⟨2, _⟩ => exact h

/-! ## The whole array -/

/-- Point `t`'s block, computed from its blocks of the arguments, is its block of the blend. -/
theorem block_eq (c : Dev nD) (t : Fin cfg0.N) (y : S16x64x2048.Idx) :
    out0_2 (F := Ideal) (iblk m c 0 t) (iblk m c 1 t) y = (win0_2.blk t).view.read (Elt Ideal) (blendOf m c) y := by
  have hx := positions_apply m c t (y 0) (y 2)
  have h0 := features_apply m c t (y 0) (y 1) (0 : Fin 128)
  have h1 := features_apply m c t (y 0) (y 1) (1 : Fin 128)
  rw [block_apply (iblk m c 0 t) (iblk m c 1 t) y, result_block_apply]
  refine (congrArg₂ (fun w p => lerp w p _) hx h0).trans ((congrArg (lerp _ _) h1).trans ?_)
  rfl

/-- What point `t` writes back is its block of the blend. -/
theorem flushed_eq (c : Dev nD) (t : Fin cfg0.N) :
    (dats m 0 c).flushed 2 t = (win0_2.blk t).view.read (Elt Ideal) (blendOf m c) := by
  rw [Value.flushed2]
  funext y
  exact block_eq m c t y

/-- An index of the result lies in point `t`'s block when its last coordinate lies in that point's 2048 columns. -/
theorem mem_block (t : Fin cfg0.N) (i : S16x64x16384.Idx) (h : t.val * 2048 ≤ (i 2 : Nat) ∧ (i 2 : Nat) < t.val * 2048 + 2048) :
    i ∈ ((cfg0.win 2).blk t).view.set := by
  show i ∈ ((View.whole main_v0).slice (win0_2.rect t)).set
  rw [View.set_slice_whole, Rect.mem_set_unit]
  obtain ⟨-, -, e⟩ := block_index t
  have h0 : (i 0 : Nat) < 16 := (i 0).isLt
  have h1 : (i 1 : Nat) < 64 := (i 1).isLt
  intro a
  match a with
  | ⟨0, _⟩ =>
    show win0_2.index t 0 * 16 ≤ (i 0 : Nat) ∧ (i 0 : Nat) < win0_2.index t 0 * 16 + 16
    rw [e]; show 0 * 16 ≤ (i 0 : Nat) ∧ (i 0 : Nat) < 0 * 16 + 16; omega
  | ⟨1, _⟩ =>
    show win0_2.index t 1 * 64 ≤ (i 1 : Nat) ∧ (i 1 : Nat) < win0_2.index t 1 * 64 + 64
    rw [e]; show 0 * 64 ≤ (i 1 : Nat) ∧ (i 1 : Nat) < 0 * 64 + 64; omega
  | ⟨2, _⟩ =>
    show win0_2.index t 2 * 2048 ≤ (i 2 : Nat) ∧ (i 2 : Nat) < win0_2.index t 2 * 2048 + 2048
    rw [e]; exact h

/-- The eight blocks cover the result. -/
theorem cover (i : S16x64x16384.Idx) :
    ∃ t : Fin cfg0.N, (cfg0.win 2).flush t = true ∧ i ∈ ((cfg0.win 2).blk t).view.set := by
  have h2 : (i 2 : Nat) < 16384 := (i 2).isLt
  have ht : (i 2 : Nat) / 2048 < cfg0.N := by
    show (i 2 : Nat) / 2048 < 8
    omega
  refine ⟨⟨(i 2 : Nat) / 2048, ht⟩, flush0_2 _, mem_block _ i ?_⟩
  dsimp only
  omega

/-- So the result array ends holding the blend. -/
theorem final (c : Dev nD) : (dats m 0 c).arrAt 2 cfg0.N = blendOf m c :=
  (dats m 0 c).arrAt_eq_of_cover 2 (blendOf m c) (fun t _ => flushed_eq m c t) cover

/-- THE KERNEL'S RUN: every execution ends with the blend in the result array and the two arguments unchanged. -/
theorem run : θ_run defs (onTc (τ := τ) (main (F := Ideal))) ⟨m, fun _ => 0, ρ⟩ fun r => ∀ c : Dev nD,
      r.2.mem ((c : Thread nD τ).loc main_v0) = blendOf m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1).trans (final m c), (h c).2.1, (h c).2.2⟩) (Value.run_blocks m ρ)

end Cert.KernelIdeal.Interp

end
-- ==== Proof.TakeAlong.lean ====
/-
  What the reference computes, read at an index.

  The reference's result is one composed expression of whole arrays. Here it is named in parts (the clipped
  positions, the two index arrays, the gather along the last axis), and each part is read at an index:
  `result_apply` says that where the positions lie between 0 and 1 the result at `(b, c, q)` blends the two
  neighbours of position `(b, q)` in row `(b, c)` of the features.
-/
module

public import proofs.«01_k».proof.Proof.Gen.ReferenceIdeal.Run
public import proofs.«01_k».proof.Proof.Interpolation
public import Idealize.ShloMosaic.Lib.Pointwise
public import Idealize.ShloMosaic.Lib.ReduceAll
public import Idealize.ShloMosaic.Lib.StableHlo.Predicate

@[expose] public section

noncomputable section

open Idealize.ShloMosaic Idealize.ShloMosaic.TcCoe Idealize.SL.Sem

namespace Cert.ReferenceIdeal.Interp

open Cert.ReferenceIdeal Cert.Interp
open Facts₀

/-! ## The parts of the result -/

/-- The positions clipped to 0 … 8191. -/
def clipped (X : FVec Ideal S16x16384 .f32) : FVec Ideal S16x16384 .f32 :=
  minimumf (broadcastInDim S16x16384 ![] bcast_S_S16x16384 (id (constant S_ .f32 0x45FFF800#32)))
    (maximumf (broadcastInDim S16x16384 ![] bcast_S_S16x16384 (id (constant S_ .f32 0x00000000#32))) X)

/-- The index of each position's left neighbour. -/
def left (X : FVec Ideal S16x16384 .f32) : IVec S16x16384 32 := fptosi 32 (Host.floor (clipped X))

/-- The index of each position's right neighbour. -/
def right (X : FVec Ideal S16x16384 .f32) : IVec S16x16384 32 :=
  minsi (addi (left X) (broadcastInDim S16x16384 ![] bcast_S_S16x16384 (constantI S_ 32 1#32)))
    (broadcastInDim S16x16384 ![] bcast_S_S16x16384 (constantI S_ 32 8191#32))

/-- The weight of each position's right neighbour. -/
def weight (X : FVec Ideal S16x16384 .f32) : FVec Ideal S16x16384 .f32 := subf (clipped X) (Host.floor (clipped X))

/-- An array over `(b, q)` with a middle axis of extent 1 put in. -/
def insert {α : Type} (v : S16x16384.Idx → α) : S16x1x16384.Idx → α :=
  broadcastInDim S16x1x16384 ![0, 2] bcast_S16x16384_S16x1x16384_0_2 v

/-- An array over `(b, 1, q)` repeated along the middle axis. -/
def spread {α : Type} (v : S16x1x16384.Idx → α) : S16x64x16384.Idx → α :=
  broadcastInDim S16x64x16384 ![0, 1, 2] bcast_S16x1x16384_S16x64x16384_0_1_2 v

/-- The start indices of the gather: a negative index counts from the end of the row. -/
def starts (ix : IVec S16x64x16384 32) : IVec S16x64x16384x1 32 :=
  shapeCast _ (select (cmpi .slt ix (broadcastInDim S16x64x16384 ![] bcast_S_S16x64x16384 (constantI S_ 32 0#32)))
    (addi ix (broadcastInDim S16x64x16384 ![] bcast_S_S16x64x16384 (constantI S_ 32 8192#32))) ix)
    shapeCasts_S16x64x16384_S16x64x16384x1

/-- Which of the start indices lie in a row of 8192 entries. -/
def inRow (st : IVec S16x64x16384x1 32) : IVec S16x64x16384 1 :=
  Host.reduce IntOp.andi
    (andi (cmpi .sge st (broadcastInDim S16x64x16384x1 ![] bcast_S_S16x64x16384x1 (constantI S_ 32 0#32)))
      (cmpi .sle st (broadcastInDim S16x64x16384x1 ![0, 1, 2, 3] bcast_S1x1x1x1_S16x64x16384x1_0_1_2_3
        (broadcastInDim S1x1x1x1 ![3] bcast_S1_S1x1x1x1_3 (constantI S1 32 8191#32)))))
    (constantI S_ 1 1#1) reducesTo_S16x64x16384x1_S16x64x16384_d3 h_S_

/-- The features read along the last axis at the indices `ix`. -/
def take (f : FVec Ideal S16x64x8192 .f32) (ix : IVec S16x64x16384 32) : FVec Ideal S16x64x16384 .f32 :=
  select (inRow (starts ix))
    (Host.gather gather_S16x64x8192_S16x64x16384x1_S16x64x16384_n_2_01_01_2_3_111 f (starts ix))
    (broadcastInDim S16x64x16384 ![] bcast_S_S16x64x16384 (constant S_ .f32 0x7FC00000#32))

/-- The whole result. -/
def result (X : FVec Ideal S16x16384 .f32) (f : FVec Ideal S16x64x8192 .f32) : FVec Ideal S16x64x16384 .f32 :=
  addf
    (mulf (take f (spread (insert (left X))))
      (spread (subf (broadcastInDim S16x1x16384 ![] bcast_S_S16x1x16384 (constant S_ .f32 0x3F800000#32))
        (insert (weight X)))))
    (mulf (take f (spread (insert (right X)))) (spread (insert (weight X))))

/-- The program's result is this expression of its two arguments. -/
theorem res_eq (m : (ℓ : Loc nD τ sig) → Buf (Elt Ideal) ℓ) (c : Dev nD) :
    Value.res_main_v21 m c
      = result (m ((c.tc : Thread nD τ).loc main_arg0)) (m ((c.tc : Thread nD τ).loc main_arg1)) := rfl

/-! ## The gather, read at an index -/

/-- The index of the start-index array that belongs to result index `y`. -/
def startAt (y : S16x64x16384.Idx) : S16x64x16384x1.Idx := ix4 (y 0) (y 1) (y 2) (0 : Fin 1)

/-- The gather at `y`: the features in row `(y 0, y 1)`, at the start index read as a signed number and moved into the
    row. -/
theorem gather_apply (f : FVec Ideal S16x64x8192 .f32) (st : IVec S16x64x16384x1 32) (y : S16x64x16384.Idx) :
    Host.gather gather_S16x64x8192_S16x64x16384x1_S16x64x16384_n_2_01_01_2_3_111 f st y
      = f (ix3 (y 0) (y 1) (⟨min (st (startAt y)).toInt.toNat 8191, by omega⟩ : Fin 8192)) := by
  set d := gather_S16x64x8192_S16x64x16384x1_S16x64x16384_n_2_01_01_2_3_111 with hd
  unfold Host.gather
  congr 1
  funext a
  refine Fin.ext ?_
  show d.start y st a + d.batchCoord y a + d.offCoord y a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · have hb : (0 : Fin 3) ∈ d.operandBatchingDims := List.mem_cons_self
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  · have hb : (1 : Fin 3) ∈ d.operandBatchingDims := List.mem_cons_of_mem _ List.mem_cons_self
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  · have hc : (2 : Fin 3) ∈ d.collapsedSliceDims := List.mem_cons_self
    have hm : (2 : Fin 3) ∈ d.startIndexMap := List.mem_cons_self
    rw [GatherDims.batchCoord_eq_zero _ _ _ (d.sim_disjoint _ hm),
      GatherDims.offCoord_eq_zero _ _ _ (fun h => ((GatherDims.mem_sKept _ _).mp h).1 hc)]
    simp only [Nat.add_zero]
    unfold GatherDims.start
    rw [dif_pos hm]
    have hsi : d.siIdx y ⟨List.idxOf (2 : Fin 3) d.startIndexMap, List.idxOf_lt_length_iff.2 hm⟩ = startAt y := by
      funext b; refine Fin.ext ?_
      match b with
      | ⟨0, _⟩ => rfl
      | ⟨1, _⟩ => rfl
      | ⟨2, _⟩ => rfl
      | ⟨3, _⟩ => rfl
    rw [hsi]
    rfl

/-- A word below 8192 is, read as a signed number, neither negative nor above 8191. -/
theorem word_in_row {w : BitVec 32} (h : w.toNat < 8192) :
    w.toInt.toNat = w.toNat ∧ IntOp.cmpi .slt w 0#32 = 0#1 ∧ IntOp.cmpi .sge w 0#32 = 1#1
      ∧ IntOp.cmpi .sle w 8191#32 = 1#1 := by
  have hi : w.toInt = (w.toNat : Int) := by rw [BitVec.toInt_eq_toNat_cond, if_pos (by omega)]
  have h0 : (0#32).toInt = 0 := by decide
  have h1 : (8191#32).toInt = 8191 := by decide
  refine ⟨by rw [hi]; rfl, ?_, ?_, ?_⟩
  · simp only [IntOp.cmpi, BitVec.slt, hi, h0]; rw [decide_eq_false (by omega)]; rfl
  · simp only [IntOp.cmpi, BitVec.sle, hi, h0]; rw [decide_eq_true (by omega)]; rfl
  · simp only [IntOp.cmpi, BitVec.sle, hi, h1]; rw [decide_eq_true (by omega)]; rfl

/-- Where an index lies in the row, the start index is the index. -/
theorem starts_apply (ix : IVec S16x64x16384 32) (h : ∀ y, (ix y).toNat < 8192) (i : S16x64x16384x1.Idx) :
    starts ix i = ix (ix3 (i 0) (i 1) (i 2)) := by
  have e : starts ix i
      = Scalar.select (IntOp.cmpi .slt (ix (ix3 (i 0) (i 1) (i 2))) 0#32)
          (IntOp.addi (ix (ix3 (i 0) (i 1) (i 2))) 8192#32) (ix (ix3 (i 0) (i 1) (i 2))) := by
    idx_vars i
    pointwise [starts]
  rw [e, (word_in_row (h _)).2.1]
  rfl

/-- Where every index lies in its row, every index passes the reference's range check. -/
theorem inRow_apply (ix : IVec S16x64x16384 32) (h : ∀ y, (ix y).toNat < 8192) (y : S16x64x16384.Idx) :
    inRow (starts ix) y = 1#1 := by
  refine Host.reduce_andi_one _ _ _ _ _ rfl fun i => ?_
  show IntOp.andi (IntOp.cmpi .sge (starts ix i) 0#32) (IntOp.cmpi .sle (starts ix i) 8191#32) = 1#1
  rw [starts_apply ix h]
  obtain ⟨-, -, h0, h1⟩ := word_in_row (h (ix3 (i 0) (i 1) (i 2)))
  rw [h0, h1]
  rfl

/-- Where every index lies in its row, reading along the last axis picks the entry at the index. -/
theorem take_apply (f : FVec Ideal S16x64x8192 .f32) (ix : IVec S16x64x16384 32) (h : ∀ y, (ix y).toNat < 8192)
    (y : S16x64x16384.Idx) :
    take f ix y = f (ix3 (y 0) (y 1) (⟨(ix y).toNat, h y⟩ : Fin 8192)) := by
  have e : take f ix y = Scalar.select (inRow (starts ix) y)
      (Host.gather gather_S16x64x8192_S16x64x16384x1_S16x64x16384_n_2_01_01_2_3_111 f (starts ix) y)
      (Scalar.ofBits (F := Ideal) .f32 0x7FC00000#32) := rfl
  have hy : ix3 (startAt y 0) (startAt y 1) (startAt y 2) = y := by
    funext a
    match a with
    | ⟨0, _⟩ => rfl
    | ⟨1, _⟩ => rfl
    | ⟨2, _⟩ => rfl
  have hs : starts ix (startAt y) = ix y := (starts_apply ix h _).trans (congrArg ix hy)
  have hg := gather_apply f (starts ix) y
  simp only [hs, (word_in_row (h y)).1] at hg
  rw [e, inRow_apply ix h, hg]
  have hm : min (ix y).toNat 8191 = (ix y).toNat := by have := h y; omega
  simp only [hm]
  rfl

end Cert.ReferenceIdeal.Interp

end
-- ==== Proof.ReferenceValue.lean ====
/-
  What the reference computes, read at an index.

  The reference's result is one composed expression of whole arrays. Here it is named in parts (the clipped
  positions, the two index arrays, the gather along the last axis), and each part is read at an index:
  `result_apply` says that where the positions lie between 0 and 1 the result at `(b, c, q)` blends the two
  neighbours of position `(b, q)` in row `(b, c)` of the features.
-/
module

public import proofs.«01_k».proof.Proof.Gen.ReferenceIdeal.Run
public import proofs.«01_k».proof.Proof.Interpolation
public import proofs.«01_k».proof.Proof.TakeAlong
public import Idealize.ShloMosaic.Lib.Pointwise
public import Idealize.ShloMosaic.Lib.ReduceAll
public import Idealize.ShloMosaic.Lib.StableHlo.Predicate

@[expose] public section

noncomputable section

open Idealize.ShloMosaic Idealize.ShloMosaic.TcCoe Idealize.SL.Sem

namespace Cert.ReferenceIdeal.Interp

open Cert.ReferenceIdeal Cert.Interp
open Facts₀

/-! ## The result, read at an index -/

/-- Row `(b, c)` of the features, as a function of the index along the row (entry 0 beyond the row's end). -/
def row (f : FVec Ideal S16x64x8192 .f32) (b : Fin 16) (c : Fin 64) (n : Nat) : EReal :=
  if h : n < 8192 then f (ix3 b c (⟨n, h⟩ : Fin 8192)) else f (ix3 b c (0 : Fin 8192))

/-- An array over `(b, q)` repeated along the middle axis, read at an index. -/
theorem spread_apply {α : Type} (v : S16x16384.Idx → α) (y : S16x64x16384.Idx) :
    spread (insert v) y = v (ix2 (y 0) (y 2)) := by
  idx_vars y
  pointwise [spread, insert]

/-- Reading along the last axis at repeated indices, each of them in the row: entry `v (b, q)` of row `(b, c)`. -/
theorem take_spread (f : FVec Ideal S16x64x8192 .f32) (v : IVec S16x16384 32) (h : ∀ i, (v i).toNat < 8192)
    (b : Fin 16) (c : Fin 64) (q : Fin 16384) :
    take f (spread (insert v)) (ix3 b c q) = row f b c (v (ix2 b q)).toNat := by
  rw [take_apply f _ (fun y => by rw [spread_apply]; exact h _), row, dif_pos (h _)]
  have e : (spread (insert v) (ix3 b c q)).toNat = (v (ix2 b q)).toNat := by
    rw [spread_apply]
    rfl
  refine congrArg f (funext fun a => Fin.ext ?_)
  match a with
  | ⟨0, _⟩ => rfl
  | ⟨1, _⟩ => rfl
  | ⟨2, _⟩ => exact e

/-- One minus a repeated array, read at an index. -/
theorem complement_apply (w : FVec Ideal S16x16384 .f32) (b : Fin 16) (c : Fin 64) (q : Fin 16384) :
    spread (subf (broadcastInDim S16x1x16384 ![] bcast_S_S16x1x16384 (constant S_ .f32 0x3F800000#32)) (insert w))
      (ix3 b c q) = (1 - w (ix2 b q) : EReal) := by
  pointwise [spread, insert]

section
variable (X : FVec Ideal S16x16384 .f32) (hX : ∀ i, (0 : EReal) ≤ X i ∧ X i ≤ (1 : EReal))
include hX

/-- Between 0 and 1 clipping changes nothing. -/
theorem clipped_eq : clipped X = X := by
  funext i
  have e : clipped X i = min (Ideal.ofBits .f32 0x45FFF800#32) (max (Ideal.ofBits .f32 0x00000000#32) (X i)) := rfl
  rw [e, Ideal.ofBits_zero_f32]
  exact clip_unit (hX i).1 (hX i).2

/-- The left neighbour's index, as a word. -/
theorem left_apply (i : S16x16384.Idx) : left X i = leftWord (X i) := by
  unfold left; rw [clipped_eq X hX]; rfl

/-- The right neighbour's index, as a word. -/
theorem right_apply (i : S16x16384.Idx) : right X i = rightWord (X i) := by
  have e : right X i = IntOp.minsi (IntOp.addi (left X i) 1#32) 8191#32 := rfl
  rw [e, left_apply X hX]; rfl

/-- The right neighbour's weight. -/
theorem weight_apply (i : S16x16384.Idx) : weight X i = fraction (X i) := by
  unfold weight; rw [clipped_eq X hX]; rfl

/-- THE REFERENCE AT AN INDEX: where every position lies between 0 and 1, result `(b, c, q)` blends the left and the
    right neighbour of position `(b, q)` in row `(b, c)` with the position's fractional part. -/
theorem result_apply (f : FVec Ideal S16x64x8192 .f32) (b : Fin 16) (c : Fin 64) (q : Fin 16384) :
    result X f (ix3 b c q)
      = lerp (fraction (X (ix2 b q))) (row f b c (leftWord (X (ix2 b q))).toNat)
          (row f b c (rightWord (X (ix2 b q))).toNat) := by
  have hl : ∀ i, (left X i).toNat < 8192 := fun i => by
    rw [left_apply X hX]; exact (words_lt (hX i).1 (hX i).2).1
  have hr : ∀ i, (right X i).toNat < 8192 := fun i => by
    rw [right_apply X hX]; exact (words_lt (hX i).1 (hX i).2).2
  have ew : spread (insert (weight X)) (ix3 b c q) = fraction (X (ix2 b q)) :=
    (spread_apply (weight X) _).trans (weight_apply X hX _)
  unfold result lerp
  rw [addf_apply, mulf_apply, mulf_apply, take_spread f _ hl, take_spread f _ hr, ew,
    complement_apply, weight_apply X hX, left_apply X hX, right_apply X hX]
  simp only [Ideal.addf_def, Ideal.mulf_def]

end

end Cert.ReferenceIdeal.Interp

end
-- ==== Proof.Equation.lean ====
/-
  The equation between the two programs' results.

  Where every position lies between 0 and 1, the array the kernel leaves (`blend` of the two arguments) is the array
  the reference computes from the same arguments, element by element over the extended reals.
-/
module

public import proofs.«01_k».proof.Proof.KernelValue
public import proofs.«01_k».proof.Proof.ReferenceValue

@[expose] public section

noncomputable section

open Idealize.ShloMosaic

namespace Cert.Interp

/-- THE RESULTS AGREE: for positions between 0 and 1 and any features, the reference's result is the kernel's. -/
theorem result_eq_blend (X : FVec Ideal Cert.KernelIdeal.S16x16384 .f32) (f : FVec Ideal Cert.KernelIdeal.S16x64x8192 .f32)
    (hX : ∀ i, (0 : EReal) ≤ X i ∧ X i ≤ (1 : EReal)) :
    Cert.ReferenceIdeal.Interp.result X f = Cert.KernelIdeal.Interp.blend X f := by
  funext i
  have hi : i = ix3 (i 0 : Fin 16) (i 1 : Fin 64) (i 2 : Fin 16384) := by
    funext a
    match a with
    | ⟨0, _⟩ => rfl
    | ⟨1, _⟩ => rfl
    | ⟨2, _⟩ => rfl
  have hb := hX (ix2 (i 0 : Fin 16) (i 2 : Fin 16384))
  refine (congrArg (Cert.ReferenceIdeal.Interp.result X f) hi).trans ?_
  refine (Cert.ReferenceIdeal.Interp.result_apply X hX f (i 0) (i 1) (i 2)).trans ?_
  refine (reference_eq_kernel (Cert.ReferenceIdeal.Interp.row f (i 0) (i 1)) hb.1 hb.2).trans ?_
  have r0 : Cert.ReferenceIdeal.Interp.row f (i 0) (i 1) 0 = f (ix3 (i 0 : Fin 16) (i 1 : Fin 64) (0 : Fin 8192)) := dif_pos (by omega)
  have r1 : Cert.ReferenceIdeal.Interp.row f (i 0) (i 1) 1 = f (ix3 (i 0 : Fin 16) (i 1 : Fin 64) (1 : Fin 8192)) := dif_pos (by omega)
  rw [r0, r1]
  rfl

end Cert.Interp

end
-- ==== Proof.lean ====
/-
  The proof of `Cert.Claim`: the kernel, its idealization and the reference each run to the end with their arguments
  unchanged and every semaphore at zero; the idealization is the kernel's own text; and for positions between 0 and 1
  the kernel's result is the reference's. The mathematics lies in the modules beside this one:
    Interpolation   — the scalar equation at one position;
    UnitPositions   — what the precondition says of the positions;
    TakeAlong       — the reference's gather, read at an index;
    ReferenceValue  — the reference's result, read at an index;
    KernelValue     — the kernel's block, its result array and its run;
    Equation        — the two results are equal.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_unit_positions
public import proofs.«01_k».proof.Proof.Gen.KernelIdeal.Value
public import proofs.«01_k».proof.Proof.Gen.ReferenceIdeal.Run
public import proofs.«01_k».proof.Proof.UnitPositions
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its two arguments unchanged, and uses no semaphore. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => ⟨(h c).2.1, (h c).2.2⟩, Idealize.ShloMosaic.sem_eq_zero_of_no_sems (by decide) r.2⟩)
    (Cert.ReferenceIdeal.Value.run (F := Ideal) m ρ)

/-- From equal arguments with every position between 0 and 1, the kernel and the reference end with the same result:
    the blend of columns 0 and 1 of the features. -/
theorem algebraic : Cert.algebraic_KernelIdeal_ReferenceIdeal_pre_unit_positions := by
  intro m g m' g' hpre hargs
  refine ⟨fun c => Cert.KernelIdeal.Interp.blendOf m c, Cert.KernelIdeal.Interp.run m g, ?_⟩
  refine (θ_run Cert.ReferenceIdeal.defs _ _).mono (fun r h c => ⟨(h c).1.trans ?_, (h c).2.1, (h c).2.2⟩)
    (Cert.ReferenceIdeal.Value.run (F := Ideal) m' g')
  refine (Cert.ReferenceIdeal.Interp.res_eq m' c).trans ?_
  rw [(hargs c).1, (hargs c).2]
  exact Cert.Interp.result_eq_blend _ _ (Cert.UnitPositions.bounds _ _ (hpre c))

/-- Every claim holds: the three programs run to the end and leave their arguments unchanged, the idealized kernel is
    the kernel's own text, and the two results agree for positions between 0 and 1. -/
theorem claim : Cert.Claim := ⟨Cert.Kernel.Gen.facts, Cert.KernelIdeal.Gen.facts, Cert.ReferenceIdeal.Gen.facts,
  Cert.Pre_unit_positions.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  trivial,
  algebraic⟩

end Cert.Proof

end
